-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_reference [hKernelIdeal : Cert.KernelIdeal.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v14))) = (fun _ => 1#1))

def Claim : Prop :=
  ∃ (hKernel : Cert.Kernel.Facts) (hKernelIdeal : Cert.KernelIdeal.Facts) (hReferenceIdeal : Cert.ReferenceIdeal.Facts) (hPost_near_reference : Cert.Post_near_reference.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_near_reference (hKernelIdeal := hKernelIdeal) (hPost_near_reference := hPost_near_reference)
-- ==== Post_near_reference.lean ====
abbrev S4096x200 : Shape := ⟨2, ![4096, 200]⟩
abbrev S32 : Shape := ⟨1, ![32]⟩
abbrev S4096x200x64 : Shape := ⟨3, ![4096, 200, 64]⟩
abbrev S4096x200x1 : Shape := ⟨3, ![4096, 200, 1]⟩
abbrev S1x32 : Shape := ⟨2, ![1, 32]⟩
abbrev S2x32 : Shape := ⟨2, ![2, 32]⟩
abbrev S64 : Shape := ⟨1, ![64]⟩
abbrev S1x1x64 : Shape := ⟨3, ![1, 1, 64]⟩
abbrev S1x1x32 : Shape := ⟨3, ![1, 1, 32]⟩
abbrev S4096x200x32 : Shape := ⟨3, ![4096, 200, 32]⟩
abbrev S_ : Shape := ⟨0, ![]⟩

class Facts : Prop where
  bcast_S4096x200_S4096x200x1_0_1 : S4096x200.BroadcastsInDim S4096x200x1 (![0, 1] : Fin 2 → Fin S4096x200x1.rank)
  shapeCasts_S32_S1x32 : S32.ShapeCasts S1x32
  bcast_S1x32_S2x32_0_1 : S1x32.BroadcastsInDim S2x32 (![0, 1] : Fin 2 → Fin S2x32.rank)
  shapeCasts_S2x32_S64 : S2x32.ShapeCasts S64
  bcast_S64_S1x1x64_2 : S64.BroadcastsInDim S1x1x64 (![2] : Fin 1 → Fin S1x1x64.rank)
  bcast_S4096x200x1_S4096x200x64_0_1_2 : S4096x200x1.BroadcastsInDim S4096x200x64 (![0, 1, 2] : Fin 3 → Fin S4096x200x64.rank)
  bcast_S1x1x64_S4096x200x64_0_1_2 : S1x1x64.BroadcastsInDim S4096x200x64 (![0, 1, 2] : Fin 3 → Fin S4096x200x64.rank)
  bcast_S32_S1x1x32_2 : S32.BroadcastsInDim S1x1x32 (![2] : Fin 1 → Fin S1x1x32.rank)
  bcast_S4096x200x1_S4096x200x32_0_1_2 : S4096x200x1.BroadcastsInDim S4096x200x32 (![0, 1, 2] : Fin 3 → Fin S4096x200x32.rank)
  bcast_S1x1x32_S4096x200x32_0_1_2 : S1x1x32.BroadcastsInDim S4096x200x32 (![0, 1, 2] : Fin 3 → Fin S4096x200x32.rank)
  concatenates_S4096x200x32_S4096x200x32_S4096x200x64_d2 : Shape.Concatenates [S4096x200x32, S4096x200x32] S4096x200x64 2
  bcast_S_S4096x200 : S_.BroadcastsInDim S4096x200 (![] : Fin 0 → Fin S4096x200.rank)
  bcast_S_S4096x200x64 : S_.BroadcastsInDim S4096x200x64 (![] : Fin 0 → Fin S4096x200x64.rank)

variable [Facts]

def fn_where {F : FTy → Type} [FloatOps F] (arg0 : IVec S4096x200x1 1) (arg1 : FVec F S_ .f32) (arg2 : FVec F S4096x200x64 .f32) : FVec F S4096x200x64 .f32 :=
  let v0 : IVec S4096x200x64 1 := broadcastInDim S4096x200x64 ![0, 1, 2] bcast_S4096x200x1_S4096x200x64_0_1_2 arg0
  let v1 : FVec F S4096x200x64 .f32 := broadcastInDim S4096x200x64 ![] bcast_S_S4096x200x64 arg1
  let v2 : FVec F S4096x200x64 .f32 := select v0 v1 arg2
  v2

def fn_part1 {F : FTy → Type} [FloatOps F] (main_v7 : FVec F S4096x200x64 .f32) (main_v21 : FVec F S4096x200x64 .f32) : IVec S4096x200x64 1 :=
  let main_v22 : FVec F S4096x200x64 .f32 := Host.absf main_v7
  let main_cst_1 : FVec F S_ .f32 := constant S_ .f32 0x33800000#32
  let main_v23 : FVec F S4096x200x64 .f32 := broadcastInDim S4096x200x64 ![] bcast_S_S4096x200x64 main_cst_1
  let main_v24 : FVec F S4096x200x64 .f32 := mulf main_v23 main_v22
  let main_cst_2 : FVec F S_ .f32 := constant S_ .f32 0x3AAA64C3#32
  let main_v25 : FVec F S4096x200x64 .f32 := broadcastInDim S4096x200x64 ![] bcast_S_S4096x200x64 main_cst_2
  let main_v26 : FVec F S4096x200x64 .f32 := addf main_v25 main_v24
  let main_v27 : IVec S4096x200x64 1 := cmpf .ole main_v21 main_v26
  main_v27

def fn {F : FTy → Type} [FloatOps F] (main_arg0 : FVec F S4096x200 .f32) (main_arg1 : FVec F S32 .f32) (main_arg2 : FVec F S4096x200x64 .f32) : IVec S4096x200x64 1 :=
  let main_v0 : FVec F S4096x200x1 .f32 := broadcastInDim S4096x200x1 ![0, 1] bcast_S4096x200_S4096x200x1_0_1 main_arg0
  let main_v1 : FVec F S1x32 .f32 := shapeCast S1x32 main_arg1 shapeCasts_S32_S1x32
  let main_v2 : FVec F S2x32 .f32 := broadcastInDim S2x32 ![0, 1] bcast_S1x32_S2x32_0_1 main_v1
  let main_v3 : FVec F S64 .f32 := shapeCast S64 main_v2 shapeCasts_S2x32_S64
  let main_v4 : FVec F S1x1x64 .f32 := broadcastInDim S1x1x64 ![2] bcast_S64_S1x1x64_2 main_v3
  let main_v5 : FVec F S4096x200x64 .f32 := broadcastInDim S4096x200x64 ![0, 1, 2] bcast_S4096x200x1_S4096x200x64_0_1_2 main_v0
  let main_v6 : FVec F S4096x200x64 .f32 := broadcastInDim S4096x200x64 ![0, 1, 2] bcast_S1x1x64_S4096x200x64_0_1_2 main_v4
  let main_v7 : FVec F S4096x200x64 .f32 := mulf main_v5 main_v6
  let main_v8 : FVec F S4096x200x1 .f32 := broadcastInDim S4096x200x1 ![0, 1] bcast_S4096x200_S4096x200x1_0_1 main_arg0
  let main_v9 : FVec F S1x1x32 .f32 := broadcastInDim S1x1x32 ![2] bcast_S32_S1x1x32_2 main_arg1
  let main_v10 : FVec F S4096x200x32 .f32 := broadcastInDim S4096x200x32 ![0, 1, 2] bcast_S4096x200x1_S4096x200x32_0_1_2 main_v8
  let main_v11 : FVec F S4096x200x32 .f32 := broadcastInDim S4096x200x32 ![0, 1, 2] bcast_S1x1x32_S4096x200x32_0_1_2 main_v9
  let main_v12 : FVec F S4096x200x32 .f32 := mulf main_v10 main_v11
  let main_v13 : FVec F S4096x200x32 .f32 := Host.sin main_v12
  let main_v14 : FVec F S4096x200x32 .f32 := Host.cos main_v12
  let main_v15 : FVec F S4096x200x64 .f32 := (fun a b => concatenate S4096x200x64 2 [⟨S4096x200x32, a⟩, ⟨S4096x200x32, b⟩] concatenates_S4096x200x32_S4096x200x32_S4096x200x64_d2) main_v13 main_v14
  let main_cst : FVec F S_ .f32 := constant S_ .f32 0xC1200000#32
  let main_v16 : FVec F S4096x200 .f32 := broadcastInDim S4096x200 ![] bcast_S_S4096x200 main_cst
  let main_v17 : IVec S4096x200 1 := cmpf .oeq main_arg0 main_v16
  let main_v18 : IVec S4096x200x1 1 := broadcastInDim S4096x200x1 ![0, 1] bcast_S4096x200_S4096x200x1_0_1 main_v17
  let main_cst_0 : FVec F S_ .f32 := constant S_ .f32 0x00000000#32
  let main_v19 : FVec F S4096x200x64 .f32 := fn_where (F := F) main_v18 main_cst_0 main_v15
  let main_v20 : FVec F S4096x200x64 .f32 := subf main_arg2 main_v19
  let main_v21 : FVec F S4096x200x64 .f32 := Host.absf main_v20
  fn_part1 (F := F) main_v7 main_v21
-- ==== Kernel.lean ====
abbrev S4096x200 : Shape := ⟨2, ![4096, 200]⟩
abbrev S32 : Shape := ⟨1, ![32]⟩
abbrev S128 : Shape := ⟨1, ![128]⟩
abbrev S64x2x32x200 : Shape := ⟨4, ![64, 2, 32, 200]⟩
abbrev S64x1x32x200 : Shape := ⟨4, ![64, 1, 32, 200]⟩
abbrev S64x32x200 : Shape := ⟨3, ![64, 32, 200]⟩
abbrev S2048x200 : Shape := ⟨2, ![2048, 200]⟩
abbrev S1x32 : Shape := ⟨2, ![1, 32]⟩
abbrev S4x32 : Shape := ⟨2, ![4, 32]⟩
abbrev S_ : Shape := ⟨0, ![]⟩
abbrev S1x1x128 : Shape := ⟨3, ![1, 1, 128]⟩
abbrev S4096x200x64 : Shape := ⟨3, ![4096, 200, 64]⟩
abbrev S32x200 : Shape := ⟨2, ![32, 200]⟩
abbrev S64x200x64 : Shape := ⟨3, ![64, 200, 64]⟩
abbrev S32x200x1 : Shape := ⟨3, ![32, 200, 1]⟩
abbrev S32x200x128 : Shape := ⟨3, ![32, 200, 128]⟩
abbrev S32x200x64 : Shape := ⟨3, ![32, 200, 64]⟩

abbrev nBuf : Space → Nat
  | .hbm => 19
  | .vmem => 8
  | .smem => 0
  | _ => 0

abbrev bufTy : (tb : Table) → Fin (tcTables nBuf tb) → BufTy
  | .hbm, ⟨0, _⟩ => ⟨S4096x200, .f32⟩
  | .hbm, ⟨1, _⟩ => ⟨S32, .f32⟩
  | .hbm, ⟨2, _⟩ => ⟨S128, .f32⟩
  | .hbm, ⟨3, _⟩ => ⟨S64x2x32x200, .f32⟩
  | .hbm, ⟨4, _⟩ => ⟨S64x1x32x200, .f32⟩
  | .hbm, ⟨5, _⟩ => ⟨S64x32x200, .f32⟩
  | .hbm, ⟨6, _⟩ => ⟨S2048x200, .f32⟩
  | .hbm, ⟨7, _⟩ => ⟨S64x1x32x200, .f32⟩
  | .hbm, ⟨8, _⟩ => ⟨S64x32x200, .f32⟩
  | .hbm, ⟨9, _⟩ => ⟨S2048x200, .f32⟩
  | .hbm, ⟨10, _⟩ => ⟨S1x32, .f32⟩
  | .hbm, ⟨11, _⟩ => ⟨S4x32, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x1x128, .f32⟩
  | .hbm, ⟨17, _⟩ => ⟨S1x1x128, .f32⟩
  | .hbm, ⟨18, _⟩ => ⟨S4096x200x64, .f32⟩
  | .local _ .vmem, ⟨0, _⟩ => ⟨S32x200, .f32⟩
  | .local _ .vmem, ⟨1, _⟩ => ⟨S32x200, .f32⟩
  | .local _ .vmem, ⟨2, _⟩ => ⟨S32x200, .f32⟩
  | .local _ .vmem, ⟨3, _⟩ => ⟨S32x200, .f32⟩
  | .local _ .vmem, ⟨4, _⟩ => ⟨S1x1x128, .f32⟩
  | .local _ .vmem, ⟨5, _⟩ => ⟨S1x1x128, .f32⟩
  | .local _ .vmem, ⟨6, _⟩ => ⟨S64x200x64, .f32⟩
  | .local _ .vmem, ⟨7, _⟩ => ⟨S64x200x64, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x200 : Shape := ⟨2, ![4096, 200]⟩
abbrev S32 : Shape := ⟨1, ![32]⟩
abbrev S4096x200x1 : Shape := ⟨3, ![4096, 200, 1]⟩
abbrev S1x1x32 : Shape := ⟨3, ![1, 1, 32]⟩
abbrev S4096x200x32 : Shape := ⟨3, ![4096, 200, 32]⟩
abbrev S_ : Shape := ⟨0, ![]⟩
abbrev S4096x200x64 : Shape := ⟨3, ![4096, 200, 64]⟩

abbrev nBuf : Space → Nat
  | .hbm => 58
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S32, .f32⟩
  | .hbm, ⟨2, _⟩ => ⟨S4096x200x1, .f32⟩
  | .hbm, ⟨3, _⟩ => ⟨S1x1x32, .f32⟩
  | .hbm, ⟨4, _⟩ => ⟨S4096x200x32, .f32⟩
  | .hbm, ⟨5, _⟩ => ⟨S4096x200x32, .f32⟩
  | .hbm, ⟨6, _⟩ => ⟨S4096x200x32, .f32⟩
  | .hbm, ⟨7, _⟩ => ⟨S_, .f32⟩
  | .hbm, ⟨8, _⟩ => ⟨S4096x200x32, .f32⟩
  | .hbm, ⟨9, _⟩ => ⟨S4096x200x32, .f32⟩
  | .hbm, ⟨10, _⟩ => ⟨S4096x200x32, .f32⟩
  | .hbm, ⟨11, _⟩ => ⟨S4096x200x32, .f32⟩
  | .hbm, ⟨12, _⟩ => ⟨S4096x200x32, .f32⟩
  | .hbm, ⟨13, _⟩ => ⟨S_, .f32⟩
  | .hbm, ⟨14, _⟩ => ⟨S4096x200x32, .f32⟩
  | .hbm, ⟨15, _⟩ => ⟨S4096x200x32, .f32⟩
  | .hbm, ⟨16, _⟩ => ⟨S_, .f32⟩
  | .hbm, ⟨17, _⟩ => ⟨S4096x200x32, .f32⟩
  | .hbm, ⟨18, _⟩ => ⟨S4096x200x32, .f32⟩
  | .hbm, ⟨19, _⟩ => ⟨S4096x200x32, .f32⟩
  | .hbm, ⟨20, _⟩ => ⟨S_, .f32⟩
  | .hbm, ⟨21, _⟩ => ⟨S4096x200x32, .f32⟩
  | .hbm, ⟨22, _⟩ => ⟨S4096x200x32, .f32⟩
  | .hbm, ⟨23, _⟩ => ⟨S4096x200x32, .f32⟩
  | .hbm, ⟨24, _⟩ => ⟨S_, .f32⟩
  | .hbm, ⟨25, _⟩ => ⟨S4096x200x32, .f32⟩
  | .hbm, ⟨26, _⟩ => ⟨S4096x200x32, .f32⟩
  | .hbm, ⟨27, _⟩ => ⟨S4096x200x32, .f32⟩
  | .hbm, ⟨28, _⟩ => ⟨S_, .f32⟩
  | .hbm, ⟨29, _⟩ => ⟨S4096x200x32, .f32⟩
  | .hbm, ⟨30, _⟩ => ⟨S4096x200x32, .f32⟩
  | .hbm, ⟨31, _⟩ => ⟨S4096x200x32, .f32⟩
  | .hbm, ⟨32, _⟩ => ⟨S4096x200x32, .f32⟩
  | .hbm, ⟨33, _⟩ => ⟨S4096x200x32, .f32⟩
  | .hbm, ⟨34, _⟩ => ⟨S_, .f32⟩
  | .hbm, ⟨35, _⟩ => ⟨S4096x200x32, .f32⟩
  | .hbm, ⟨36, _⟩ => ⟨S4096x200x32, .f32⟩
  | .hbm, ⟨37, _⟩ => ⟨S_, .f32⟩
  | .hbm, ⟨38, _⟩ => ⟨S4096x200x32, .f32⟩
  | .hbm, ⟨39, _⟩ => ⟨S4096x200x32, .f32⟩
  | .hbm, ⟨40, _⟩ => ⟨S4096x200x32, .f32⟩
  | .hbm, ⟨41, _⟩ => ⟨S_, .f32⟩
  | .hbm, ⟨42, _⟩ => ⟨S4096x200x32, .f32⟩
  | .hbm, ⟨43, _⟩ => ⟨S4096x200x32, .f32⟩
  | .hbm, ⟨44, _⟩ => ⟨S4096x200x32, .f32⟩
  | .hbm, ⟨45, _⟩ => ⟨S_, .f32⟩
  | .hbm, ⟨46, _⟩ => ⟨S4096x200x32, .f32⟩
  | .hbm, ⟨47, _⟩ => ⟨S4096x200x32, .f32⟩
  | .hbm, ⟨48, _⟩ => ⟨S4096x200x32, .f32⟩
  | .hbm, ⟨49, _⟩ => ⟨S4096x200x64, .f32⟩
  | .hbm, ⟨50, _⟩ => ⟨S_, .f32⟩
  | .hbm, ⟨51, _⟩ => ⟨S4096x200, .f32⟩
  | .hbm, ⟨52, _⟩ => ⟨S4096x200, .i1⟩
  | .hbm, ⟨53, _⟩ => ⟨S4096x200x1, .i1⟩
  | .hbm, ⟨54, _⟩ => ⟨S_, .f32⟩
  | .hbm, ⟨55, _⟩ => ⟨S4096x200x64, .i1⟩
  | .hbm, ⟨56, _⟩ => ⟨S4096x200x64, .f32⟩
  | .hbm, ⟨57, _⟩ => ⟨S4096x200x64, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Wave.lean ====
/- The result as one formula, entry by entry, over the extended reals: what both programs are shown to compute.
   Its constants are kept as the float words that the programs spell; `Consts` gives their values. -/
module

public import proofs.«01_k».proof.KernelIdeal
public import Idealize.ShloMosaic.Lib.Pointwise

@[expose] public section

noncomputable section

namespace Cert.Proof.Wave

open Idealize.ShloMosaic

/-- Nearest integer of an extended real, a tie going to the even neighbour. -/
abbrev nearest (u : EReal) : EReal := Ideal.liftRound Ideal.roundHalfEven u

/-- The value of a float word. -/
abbrev word (w : BitVec 32) : EReal := Ideal.ofBits .f32 w

/-- The odd polynomial of degree seven, in Horner's form, of a distance `d` from a whole turn. -/
def septic (d : EReal) : EReal :=
  d * (word 0x40C909CE#32 + d * d * (word 0xC224EFA7#32 + d * d * (word 0x429E6000#32 + d * d * word 0xC26CFC74#32)))

/-- The approximate sine of an angle given in turns: the polynomial of the distance to the nearest whole turn. -/
def wave (u : EReal) : EReal := septic (u - nearest u)

/-- One entry of the result: position `p`, frequency `w`, phase `q` in turns; zero at the masked position. -/
def entry (p w q : EReal) : EReal :=
  if p = word 0xC1200000#32 then 0 else wave (p * (w * word 0x3E22F983#32) + q)

/-- The phase of result lane `j`: none in the sine half, a quarter turn in the cosine half. -/
def phase (j : ℕ) : EReal := if j < 32 then 0 else word 0x3E800000#32

/-- The whole result. -/
def rope (X : FVec Ideal Cert.KernelIdeal.S4096x200 .f32) (f : FVec Ideal Cert.KernelIdeal.S32 .f32) :
    FVec Ideal Cert.KernelIdeal.S4096x200x64 .f32 :=
  fun i => entry (X (ix2 (i 0) (i 1))) (f (ix1 ⟨(i 2).val % 32, Nat.mod_lt _ (by decide)⟩)) (phase (i 2).val)

end Cert.Proof.Wave

end
-- ==== Proof.Body.lean ====
/- The kernel's body, and the arrays it is handed, read at an index. -/
module

public import proofs.«01_k».proof.Proof.Gen.KernelIdeal.Value
public import proofs.«01_k».proof.Proof.Wave
public import Idealize.ShloMosaic.Lib.Pipeline.ValueKit

@[expose] public section

set_option maxRecDepth 16384

noncomputable section

namespace Cert.Proof.Body

open Cert.KernelIdeal Cert.KernelIdeal.Gen Cert.Proof.Wave Idealize.ShloMosaic Idealize.ShloMosaic.TcCoe Idealize.SL.Sem

/-- The lane test `lane < 64`, as the body makes it on 32-bit words. -/
theorem lane_lt : ∀ l : Fin 128, IntOp.cmpi CmpIPredicate.slt (BitVec.ofNat 32 l.val) 64#32 = if l.val < 64 then 1#1 else 0#1 := by
  decide +kernel

/-- The body's value at row `r`, position `k` and lane `l`: lanes below 64 read the first block of positions, the others
    the second. Lane `l` has its own scaled frequency and phase. -/
theorem pay2_apply (a b : FVec Ideal S32x200 .f32) (g q : FVec Ideal S1x1x128 .f32) (r : Fin 32) (k : Fin 200) (l : Fin 128) :
    k0_pay2 (F := Ideal) a b g q (ix3 r k l)
      = if (if l.val < 64 then a (ix2 r k) else b (ix2 r k)) = word 0xC1200000#32 then 0
        else wave ((if l.val < 64 then a (ix2 r k) else b (ix2 r k)) * g (ix3 0 0 l) + q (ix3 0 0 l)) := by
  pointwise [k0_pay2]
  rw [lane_lt]
  have e : Scalar.select (if l.val < 64 then 1#1 else 0#1) (a (ix2 r k)) (b (ix2 r k))
      = if l.val < 64 then a (ix2 r k) else b (ix2 r k) := by
    split <;> rfl
  rw [e]
  rfl

/-- The phase table, word by word. -/
theorem table_word : ∀ l : Fin 128, lit0 l = if l.val % 64 < 32 then 0x00000000#32 else 0x3E800000#32 := by
  decide +kernel

variable (m : (ℓ : Loc nD τ sig) → Buf (Elt Ideal) ℓ)

/-- The positions and the frequencies as the program finds them. -/
abbrev pos (c : Dev nD) : FVec Ideal S4096x200 .f32 := m ((c : Thread nD τ).loc main_arg0)
abbrev freq (c : Dev nD) : FVec Ideal S32 .f32 := m ((c : Thread nD τ).loc main_arg1)

/-- The first operand: of every 64 rows of positions, the first 32. -/
theorem first_apply (c : Dev nD) (r : Fin 2048) (k : Fin 200) : (show FVec Ideal S2048x200 .f32 from V m c main_v3) (ix2 r k)
    = pos m c (ix2 ⟨r.val / 32 * 64 + r.val % 32, by omega⟩ k) := by
  entry_read
  pointwise

/-- The second operand: of every 64 rows of positions, the last 32. -/
theorem second_apply (c : Dev nD) (r : Fin 2048) (k : Fin 200) : (show FVec Ideal S2048x200 .f32 from V m c main_v6) (ix2 r k)
    = pos m c (ix2 ⟨r.val / 32 * 64 + 32 + r.val % 32, by omega⟩ k) := by
  entry_read
  pointwise

/-- The third operand: the frequencies repeated four times, in turns. -/
theorem scaled_apply (c : Dev nD) (l : Fin 128) : (show FVec Ideal S1x1x128 .f32 from V m c main_v12) (ix3 0 0 l)
    = freq m c (ix1 ⟨l.val % 32, by omega⟩) * word 0x3E22F983#32 := by
  entry_read
  pointwise

/-- The fourth operand: the phases. -/
theorem phase_apply (c : Dev nD) (l : Fin 128) : (show FVec Ideal S1x1x128 .f32 from V m c main_v13) (ix3 0 0 l)
    = phase (l.val % 64) := by
  entry_read
  pointwise
  have e : S128.rowMajor (ix1 l) = l := by
    exact Fin.ext (rowMajor_val1 _)
  rw [e, table_word]
  unfold phase
  split
  · simp
  · rfl

end Cert.Proof.Body
-- ==== Proof.Final.lean ====
/- The kernel's result array after its run is `rope` of the arguments. -/
module

public import proofs.«01_k».proof.Proof.Body

@[expose] public section

set_option maxRecDepth 16384

noncomputable section

namespace Cert.Proof.Final

open Cert.KernelIdeal Cert.KernelIdeal.Gen Cert.Proof.Wave Cert.Proof.Body Idealize.ShloMosaic Idealize.ShloMosaic.TcCoe Idealize.SL.Sem

variable (m : (ℓ : Loc nD τ sig) → Buf (Elt Ideal) ℓ)

/-- The block that each window is on at point `t`. -/
theorem index_at : ∀ t : Fin cfg0.N, t.val < 64 ∧ win0_0.index t = ![t.val, 0] ∧ win0_1.index t = ![t.val, 0] ∧ win0_2.index t = ![0, 0, 0]
    ∧ win0_3.index t = ![0, 0, 0] ∧ win0_4.index t = ![t.val, 0, 0] :=
  (by decide +kernel : ∀ t : Fin grid0.N, _)

/-- The upper half of the lanes, as the body stores it. -/
theorem upper (v : FVec Ideal S32x200x128 .f32) (x : S32x200x64.Idx) (r : Fin 32) (k : Fin 200) (l : Fin 128)
    (hr : r.val = (x 0).val) (hk : k.val = (x 1).val) (hl : l.val = 64 + (x 2).val) :
    k0_pay1 (F := Ideal) v x = v (ix3 r k l) := by
  pointwise [k0_pay1]
  blk_ext []

/-- The lower half. -/
theorem lower (a b : FVec Ideal S32x200 .f32) (g q : FVec Ideal S1x1x128 .f32) (x : S32x200x64.Idx) (r : Fin 32) (k : Fin 200)
    (l : Fin 128) (hr : r.val = (x 0).val) (hk : k.val = (x 1).val) (hl : l.val = (x 2).val) :
    k0_pay3 (F := Ideal) a b g q x = k0_pay2 a b g q (ix3 r k l) := by
  pointwise [k0_pay3]
  blk_ext []

/-- The four input blocks at point `t`. -/
abbrev blockA (c : Dev nD) (t : Fin cfg0.N) : FVec Ideal S32x200 .f32 := iblk m c 0 t
abbrev blockB (c : Dev nD) (t : Fin cfg0.N) : FVec Ideal S32x200 .f32 := iblk m c 1 t
abbrev blockG (c : Dev nD) (t : Fin cfg0.N) : FVec Ideal S1x1x128 .f32 := iblk m c 2 t
abbrev blockQ (c : Dev nD) (t : Fin cfg0.N) : FVec Ideal S1x1x128 .f32 := iblk m c 3 t

/-- The first block at point `t`: rows `64 t` to `64 t + 31` of the positions. -/
theorem blockA_apply (c : Dev nD) (t : Fin cfg0.N) (r : Fin 32) (k : Fin 200) (R : Fin 4096) (hR : R.val = t.val * 64 + r.val) :
    blockA m c t (ix2 r k) = pos m c (ix2 R k) := by
  obtain ⟨ht, e0, e1, e2, e3, e4⟩ := index_at t
  trans (show FVec Ideal S2048x200 .f32 from V m c main_v3) (ix2 ⟨t.val * 32 + r.val, by omega⟩ k)
  · blk_ext [iblk, e0]
  · rw [first_apply]
    blk_ext []

/-- The second block at point `t`: rows `64 t + 32` to `64 t + 63` of the positions. -/
theorem blockB_apply (c : Dev nD) (t : Fin cfg0.N) (r : Fin 32) (k : Fin 200) (R : Fin 4096) (hR : R.val = t.val * 64 + 32 + r.val) :
    blockB m c t (ix2 r k) = pos m c (ix2 R k) := by
  obtain ⟨ht, e0, e1, e2, e3, e4⟩ := index_at t
  trans (show FVec Ideal S2048x200 .f32 from V m c main_v6) (ix2 ⟨t.val * 32 + r.val, by omega⟩ k)
  · blk_ext [iblk, e1]
  · rw [second_apply]
    blk_ext []

/-- The third block is the same at every point: the scaled frequencies. -/
theorem blockG_apply (c : Dev nD) (t : Fin cfg0.N) (l : Fin 128) :
    blockG m c t (ix3 0 0 l) = freq m c (ix1 ⟨l.val % 32, Nat.mod_lt _ (by decide)⟩) * word 0x3E22F983#32 := by
  obtain ⟨ht, e0, e1, e2, e3, e4⟩ := index_at t
  refine Eq.trans ?_ (scaled_apply m c l)
  blk_ext [iblk, e2]

/-- The fourth block is the same at every point: the phases. -/
theorem blockQ_apply (c : Dev nD) (t : Fin cfg0.N) (l : Fin 128) : blockQ m c t (ix3 0 0 l) = phase (l.val % 64) := by
  obtain ⟨ht, e0, e1, e2, e3, e4⟩ := index_at t
  refine Eq.trans ?_ (phase_apply m c l)
  blk_ext [iblk, e3]

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole block reads the block. -/
theorem load2 (x : FVec Ideal S32x200 .f32) : View.ld (Val := Elt Ideal) (e' := .f32) x r0_0 = x := by
  funext y
  exact congrArg x (by blk_ext [] <;> simp [r0_0, r0_1])
theorem load3 (x : FVec Ideal S1x1x128 .f32) : View.ld (Val := Elt Ideal) (e' := .f32) x r0_1 = x := by
  funext y
  exact congrArg x (by blk_ext [] <;> simp [r0_0, r0_1])

/-- The body's value at lane `l` of a row that the lane's half has at row `R` of the positions. -/
theorem stored (c : Dev nD) (t : Fin cfg0.N) (r : Fin 32) (k : Fin 200) (l : Fin 128) (R : Fin 4096)
    (hR : R.val = t.val * 64 + (if l.val < 64 then 0 else 32) + r.val) (j : Fin 64) (hj : j.val = l.val % 64) :
    k0_pay2 (F := Ideal) (blockA m c t) (blockB m c t) (blockG m c t) (blockQ m c t) (ix3 r k l)
      = rope (pos m c) (freq m c) (ix3 R k j) := by
  have hp : (if l.val < 64 then blockA m c t (ix2 r k) else blockB m c t (ix2 r k)) = pos m c (ix2 R k) := by
    split
    · exact blockA_apply m c t r k R (by simp_all)
    · exact blockB_apply m c t r k R (by simp_all)
  rw [pay2_apply, hp, blockG_apply, blockQ_apply]
  have hf : (⟨l.val % 32, Nat.mod_lt _ (by decide)⟩ : Fin 32) = ⟨j.val % 32, Nat.mod_lt _ (by decide)⟩ :=
    Fin.ext (by simp only [hj]; omega)
  rw [hf, ← hj]
  rfl

/-- What the body leaves of the output block at point `t` is that block of `rope`. -/
theorem point (c : Dev nD) (t : Fin cfg0.N) (y : S64x200x64.Idx) :
    out0_4 (F := Ideal) (iblk m c 0 t) (iblk m c 1 t) (iblk m c 2 t) (iblk m c 3 t) y
      = rope (pos m c) (freq m c) (((cfg0.win 4).blk t).view.emb y) := by
  obtain ⟨ht, e0, e1, e2, e3, e4⟩ := index_at t
  have y0 : (y 0).val < 64 := (y 0).isLt
  have hy : (((cfg0.win 4).blk t).view.emb y : S4096x200x64.Idx)
      = ix3 (⟨t.val * 64 + (y 0).val, by omega⟩ : Fin 4096) (y 1 : Fin 200) (y 2 : Fin 64) := by
    blk_ext [e4]
  refine Eq.trans ?_ (congrArg (rope (pos m c) (freq m c)) hy).symm
  canon_tiles x h
  · refine (upper _ x ⟨(x 0).val, x0_lt⟩ (y 1) ⟨64 + (x 2).val, by omega⟩ rfl h1 rfl).trans ?_
    refine Eq.trans ?_ (stored m c t ⟨(x 0).val, x0_lt⟩ (y 1) ⟨64 + (x 2).val, by omega⟩ _ ?_ (y 2) ?_)
    · exact congrFun (congr (congr (congr (congrArg k0_pay2 (load2 (blockA m c t))) (load2 (blockB m c t)))
        (load3 (blockG m c t))) (load3 (blockQ m c t))) _
    · simp only [h0]; rw [if_neg (by omega)]; omega
    · simp only [h2]; omega
  · refine (lower _ _ _ _ x ⟨(x 0).val, x0_lt⟩ (y 1) ⟨(x 2).val, by omega⟩ rfl h1 rfl).trans ?_
    refine Eq.trans ?_ (stored m c t ⟨(x 0).val, x0_lt⟩ (y 1) ⟨(x 2).val, by omega⟩ _ ?_ (y 2) ?_)
    · exact congrFun (congr (congr (congr (congrArg k0_pay2 (load2 (blockA m c t))) (load2 (blockB m c t)))
        (load3 (blockG m c t))) (load3 (blockQ m c t))) _
    · simp only [h0]; rw [if_pos (by omega)]; omega
    · simp only [h2]; omega

theorem final (c : Dev nD) : (dats m 0 c).arrAt 4 cfg0.N = rope (pos m c) (freq m c) := by
  refine (dats m 0 c).arrAt_eq_of_covers 4 _ (by decide +kernel) fun t _ y => ?_
  blk_simp
  rw [after0_4]
  exact point m c t y

end Cert.Proof.Final
-- ==== Proof.Host.lean ====
/- The reference's result is `rope` of the arguments. -/
module

public import proofs.«01_k».proof.Proof.Gen.ReferenceIdeal.Run
public import proofs.«01_k».proof.Proof.Wave
public import Idealize.ShloMosaic.Lib.Pipeline.ValueKit

@[expose] public section

set_option maxRecDepth 16384

noncomputable section

namespace Cert.Proof.HostSide

open Cert.ReferenceIdeal Cert.ReferenceIdeal.Gen Cert.Proof.Wave Idealize.ShloMosaic Idealize.ShloMosaic.TcCoe Idealize.SL.Sem

variable (m : (ℓ : Loc nD τ sig) → Buf (Elt Ideal) ℓ)

/-- A sine-half entry of `rope`. The phase is zero and the two factors of the frequency may be grouped either way. -/
theorem rope_sine (X : FVec Ideal S4096x200 .f32) (f : FVec Ideal S32 .f32) (i : S4096x200x64.Idx) (j : Fin 32) (h : (i 2).val < 32)
    (hj : j.val = (i 2).val) : rope X f i = if X (ix2 (i 0) (i 1)) = word 0xC1200000#32 then 0
      else wave (X (ix2 (i 0) (i 1)) * f (ix1 j) * word 0x3E22F983#32) := by
  have e : (⟨(i 2).val % 32, Nat.mod_lt _ (by decide)⟩ : Fin 32) = j := Fin.ext (by simp only [hj]; omega)
  unfold rope entry phase
  rw [if_pos h, add_zero, e, mul_assoc]

/-- A cosine-half entry: the phase is a quarter turn. -/
theorem rope_cosine (X : FVec Ideal S4096x200 .f32) (f : FVec Ideal S32 .f32) (i : S4096x200x64.Idx) (j : Fin 32) (h : ¬ (i 2).val < 32)
    (hj : j.val = (i 2).val - 32) : rope X f i = if X (ix2 (i 0) (i 1)) = word 0xC1200000#32 then 0
      else wave (X (ix2 (i 0) (i 1)) * f (ix1 j) * word 0x3E22F983#32 + word 0x3E800000#32) := by
  have hi : (i 2).val < 64 := (i 2).isLt
  have e : (⟨(i 2).val % 32, Nat.mod_lt _ (by decide)⟩ : Fin 32) = j := Fin.ext (by simp only [hj]; omega)
  unfold rope entry phase
  rw [if_neg h, e, mul_assoc]

/-- The reference's result array. -/
theorem result (c : Dev nD) : Value.res_out0 (F := Ideal) m c
    = rope (m ((c.tc : Thread nD τ).loc main_arg0)) (m ((c.tc : Thread nD τ).loc main_arg1)) := by
  funext i
  pointwise [Value.res_out0, Value.res_main_v41]
  have hi : (i 2).val < 64 := (i 2).isLt
  by_cases h : (i 2).val < 32
  · rw [dif_pos h]
    exact (rope_sine _ _ i ⟨(i 2).val, h⟩ h rfl).symm
  · rw [dif_neg h]
    exact (rope_cosine _ _ i ⟨(i 2).val - 32, by omega⟩ h rfl).symm

end Cert.Proof.HostSide
-- ==== Proof.Consts.lean ====
/- The numbers that the programs' float words denote. -/
module

public import proofs.«01_k».proof.Proof.Wave

@[expose] public section

noncomputable section

namespace Cert.Proof.Consts

open Idealize.ShloMosaic Cert.Proof.Wave

theorem scale : word 0x3E22F983#32 = ((10680707 / 67108864 : ℝ) : EReal) := by
  simp [Ideal.ofBits, Ideal.ieee, -EReal.coe_mul]; norm_num

theorem first : word 0x40C909CE#32 = ((6587623 / 1048576 : ℝ) : EReal) := by
  simp [Ideal.ofBits, Ideal.ieee, -EReal.coe_mul]; norm_num

theorem third : word 0xC224EFA7#32 = ((-10809255 / 262144 : ℝ) : EReal) := by
  simp [Ideal.ofBits, Ideal.ieee, -EReal.coe_mul]; norm_num

theorem fifth : word 0x429E6000#32 = ((1267 / 16 : ℝ) : EReal) := by
  simp [Ideal.ofBits, Ideal.ieee, -EReal.coe_mul]; norm_num

theorem seventh : word 0xC26CFC74#32 = ((-3882781 / 65536 : ℝ) : EReal) := by
  simp [Ideal.ofBits, Ideal.ieee, -EReal.coe_mul]; norm_num

theorem quarter : word 0x3E800000#32 = ((1 / 4 : ℝ) : EReal) := by
  simp [Ideal.ofBits, Ideal.ieee, -EReal.coe_mul]; norm_num

theorem slack : word 0x3AAA64C3#32 = ((11166915 / 8589934592 : ℝ) : EReal) := by
  simp [Ideal.ofBits, Ideal.ieee, -EReal.coe_mul]; norm_num

theorem ulp : word 0x33800000#32 = ((1 / 16777216 : ℝ) : EReal) := by
  simp [Ideal.ofBits, Ideal.ieee, -EReal.coe_mul]; norm_num

end Cert.Proof.Consts

end
-- ==== Proof.Sine.lean ====
/- The degree-seven polynomial against the sine, over the reals: at distance `d` at most half a turn from a whole turn the
   two differ by less than 0.0013.
   The sine of up to a quarter turn is replaced by its Taylor polynomial of degree eleven, at a rational angle close
   to the true one. What is left is that four polynomials with rational coefficients are not negative on an interval:
   each is written in the Bernstein basis of the interval, where all its coefficients are positive. -/
module

public import Idealize.ShloMosaic.PureOps.Ideal

@[expose] public section

noncomputable section

namespace Cert.Proof.Sine

open Real

/-- The polynomial, in Horner's form, with the coefficients that the programs' float words denote. -/
def poly (d : ℝ) : ℝ :=
  d * (6587623 / 1048576 + d * d * (-10809255 / 262144 + d * d * (1267 / 16 + d * d * (-3882781 / 65536))))

/-- The Taylor polynomial of the sine, of degree eleven. -/
def taylor (y : ℝ) : ℝ := y - y ^ 3 / 6 + y ^ 5 / 120 - y ^ 7 / 5040 + y ^ 9 / 362880 - y ^ 11 / 39916800

/-- The sine against its Taylor polynomial: the remainder of the exponential series at `i y`. -/
theorem sin_near_taylor (y : ℝ) (h0 : 0 ≤ y) (h1 : y ≤ 2) : |sin y - taylor y| ≤ y ^ 12 / 479001600 * 2 := by
  have hn : ‖((y : ℂ) * Complex.I)‖ = y := by
    rw [norm_mul, Complex.norm_I, mul_one, Complex.norm_real, Real.norm_of_nonneg h0]
  have hb := Complex.exp_bound' (x := (y : ℂ) * Complex.I) (n := 12) (by rw [hn]; norm_num; linarith)
  rw [hn] at hb
  have him := (Complex.abs_im_le_norm _).trans hb
  have e : (Complex.exp ((y : ℂ) * Complex.I) - ∑ m ∈ Finset.range 12, ((y : ℂ) * Complex.I) ^ m / (m.factorial : ℂ)).im
      = sin y - taylor y := by
    rw [Complex.sub_im, Complex.exp_ofReal_mul_I_im]
    congr 1
    have : (∑ m ∈ Finset.range 12, ((y : ℂ) * Complex.I) ^ m / (m.factorial : ℂ))
        = ((1 - y ^ 2 / 2 + y ^ 4 / 24 - y ^ 6 / 720 + y ^ 8 / 40320 - y ^ 10 / 3628800 : ℝ) : ℂ) + (taylor y : ℝ) * Complex.I := by
      have i2 : Complex.I ^ 2 = -1 := Complex.I_sq
      have i3 : Complex.I ^ 3 = -Complex.I := by rw [pow_succ, i2]; ring
      have i4 : Complex.I ^ 4 = 1 := by rw [pow_succ, i3]; linear_combination -i2
      have i5 : Complex.I ^ 5 = Complex.I := by rw [pow_succ, i4]; ring
      have i6 : Complex.I ^ 6 = -1 := by rw [pow_succ, i5]; linear_combination i2
      have i7 : Complex.I ^ 7 = -Complex.I := by rw [pow_succ, i6]; ring
      have i8 : Complex.I ^ 8 = 1 := by rw [pow_succ, i7]; linear_combination -i2
      have i9 : Complex.I ^ 9 = Complex.I := by rw [pow_succ, i8]; ring
      have i10 : Complex.I ^ 10 = -1 := by rw [pow_succ, i9]; linear_combination i2
      have i11 : Complex.I ^ 11 = -Complex.I := by rw [pow_succ, i10]; ring
      simp only [Finset.sum_range_succ, Finset.sum_range_zero, Nat.factorial, mul_pow, i2, i3, i4, i5, i6, i7, i8, i9, i10, i11, taylor]
      push_cast
      ring
    rw [this, Complex.add_im, Complex.ofReal_im, Complex.mul_im, Complex.ofReal_re, Complex.ofReal_im, Complex.I_im, Complex.I_re]
    ring
  rw [e] at him
  have hf : ((12 : ℕ).factorial : ℝ) = 479001600 := by norm_num [Nat.factorial]
  rw [hf] at him
  exact him

/-- From the sine of a sixth of it: π to seven places. -/
theorem pi_low : 31415926 / 10000000 < π := by
  have h := abs_le.mp (sin_near_taylor (31415926 / 60000000) (by norm_num) (by norm_num))
  have s : sin (31415926 / 60000000) < 1 / 2 := by
    have t : taylor (31415926 / 60000000) + (31415926 / 60000000) ^ 12 / 479001600 * 2 < 1 / 2 := by
      unfold taylor; norm_num
    linarith [h.2]
  by_contra hc
  have m := sin_le_sin_of_le_of_le_pi_div_two (x := π / 6) (y := 31415926 / 60000000) (by linarith [pi_pos])
    (by linarith [two_le_pi]) (by linarith)
  rw [sin_pi_div_six] at m
  linarith

theorem pi_high : π < 31415927 / 10000000 := by
  have h := abs_le.mp (sin_near_taylor (31415927 / 60000000) (by norm_num) (by norm_num))
  have s : 1 / 2 < sin (31415927 / 60000000) := by
    have t : 1 / 2 < taylor (31415927 / 60000000) - (31415927 / 60000000) ^ 12 / 479001600 * 2 := by
      unfold taylor; norm_num
    linarith [h.1]
  by_contra hc
  have m := sin_le_sin_of_le_of_le_pi_div_two (x := 31415927 / 60000000) (y := π / 6) (by linarith [pi_pos])
    (by linarith [pi_pos]) (by linarith)
  rw [sin_pi_div_six] at m
  linarith

/-- The sine is no larger than its argument. -/
theorem sin_small (z : ℝ) (h0 : 0 ≤ z) : |sin z| ≤ z := by
  rcases le_or_gt z 1 with h1 | h1
  · have b := abs_le.mp (sin_bound (x := z) (by rwa [abs_of_nonneg h0]))
    rw [abs_of_nonneg h0] at b
    have c : 0 ≤ z ^ 3 := by positivity
    have d : z ^ 3 ≤ z := by nlinarith [mul_nonneg h0 (sub_nonneg.mpr h1), mul_nonneg (mul_nonneg h0 h0) (sub_nonneg.mpr h1)]
    have e : z ^ 5 ≤ z ^ 3 := by nlinarith [mul_nonneg c (by nlinarith : 0 ≤ 1 - z ^ 2)]
    rw [abs_le]
    constructor <;> linarith [b.1, b.2]
  · exact (abs_sin_le_one z).trans h1.le

/-- The sine moves no faster than its argument. -/
theorem sin_lipschitz (x y : ℝ) : |sin x - sin y| ≤ |x - y| := by
  have h (z : ℝ) : |sin z| ≤ |z| := by
    rcases le_total 0 z with hz | hz
    · rw [abs_of_nonneg hz]; exact sin_small z hz
    · have := sin_small (-z) (by linarith)
      rwa [sin_neg, abs_neg, ← abs_of_nonpos hz] at this
  rw [sin_sub_sin, abs_mul, abs_mul]
  have a := h ((x - y) / 2)
  have b := abs_cos_le_one ((x + y) / 2)
  have c := abs_nonneg (sin ((x - y) / 2))
  rw [abs_of_pos (by norm_num : (0 : ℝ) < 2)]
  have e : |(x - y) / 2| = |x - y| / 2 := by rw [abs_div, abs_of_pos (by norm_num : (0 : ℝ) < 2)]
  nlinarith

/-- Up to a quarter turn, the sine is within 1.5 millionths of that polynomial at the angle got with 355/113 for π. -/
theorem sin_turn_near (e : ℝ) (h0 : 0 ≤ e) (h1 : e ≤ 1 / 4) : |sin (2 * π * e) - taylor (710 / 113 * e)| ≤ 2 / 1000000 := by
  have a := sin_lipschitz (2 * π * e) (710 / 113 * e)
  have b := sin_near_taylor (710 / 113 * e) (by linarith) (by linarith)
  have q : (710 / 113 * e) ^ 12 ≤ (1571 / 1000 : ℝ) ^ 12 := pow_le_pow_left₀ (by linarith) (by linarith) 12
  have r : (1571 / 1000 : ℝ) ^ 12 ≤ 230 := by norm_num
  have c : |2 * π * e - 710 / 113 * e| ≤ 1 / 1000000 := by
    have l := pi_low
    have u := pi_high
    rw [show 2 * π * e - 710 / 113 * e = (2 * π - 710 / 113) * e from by ring, abs_mul, abs_of_nonneg h0]
    have : |2 * π - 710 / 113| ≤ 1 / 1000000 := by
      rw [abs_le]; constructor <;> linarith
    have n := abs_nonneg (2 * π - 710 / 113)
    nlinarith
  have t := abs_add_le (sin (2 * π * e) - sin (710 / 113 * e)) (sin (710 / 113 * e) - taylor (710 / 113 * e))
  rw [show sin (2 * π * e) - sin (710 / 113 * e) + (sin (710 / 113 * e) - taylor (710 / 113 * e))
    = sin (2 * π * e) - taylor (710 / 113 * e) from by ring] at t
  linarith

/-- The products of the Bernstein basis of degree eleven on the unit interval are not negative there. -/
theorem basis_nonneg (s : ℝ) (h0 : 0 ≤ s) (h1 : s ≤ 1) (k : ℕ) : 0 ≤ s ^ k * (1 - s) ^ (11 - k) :=
  mul_nonneg (pow_nonneg h0 _) (pow_nonneg (by linarith) _)

/-- Within a quarter turn of the whole turn, the polynomial is not far above the Taylor polynomial. -/
theorem low_below (s : ℝ) (h0 : 0 ≤ s) (h1 : s ≤ 1) : poly (s / 4) - taylor (710 / 113 * (s / 4)) ≤ 1298 / 1000000 := by
  have h := basis_nonneg s h0 h1
  unfold poly taylor
  linear_combination
    (649/500000) * h 0
    + (107104840529/7405568000000) * h 1
    + (54236490577/740556800000) * h 2
    + (50110375733873461/226948074700800000) * h 3
    + (12398449154745709/28368509337600000) * h 4
    + (2150693585553954961969/3622374957318144000000) * h 5
    + (1025459553067501863797/1811187478659072000000) * h 6
    + (19083099182247419066654159023/49732414588411033367347200000) * h 7
    + (2301138272013284427187846831/12433103647102758341836800000) * h 8
    + (176540136146628333695464577857109/2857649408457392182804453785600000) * h 9
    + (92093700552615545032250656048867/7144123521143480457011134464000000) * h 10
    + (5027764794540358534747529426411634017/4013825782625168486045307742715904000000) * h 11

/-- Within a quarter turn of the whole turn, the polynomial is not far below the Taylor polynomial. -/
theorem low_above (s : ℝ) (h0 : 0 ≤ s) (h1 : s ≤ 1) : -(1298 / 1000000) ≤ poly (s / 4) - taylor (710 / 113 * (s / 4)) := by
  have h := basis_nonneg s h0 h1
  unfold poly taylor
  linear_combination
    (649/500000) * h 0
    + (104368559279/7405568000000) * h 1
    + (51500209327/740556800000) * h 2
    + (47100562583467211/226948074700800000) * h 3
    + (11904285424589459/28368509337600000) * h 4
    + (2193809064255475680719/3622374957318144000000) * h 5
    + (1146791771837213457547/1811187478659072000000) * h 6
    + (23521665747352544998484840273/49732414588411033367347200000) * h 7
    + (3024457344186711080954528081/12433103647102758341836800000) * h 8
    + (231475046392918122165355333650859/2857649408457392182804453785600000) * h 9
    + (111913890717157682898159299705117/7144123521143480457011134464000000) * h 10
    + (5392126937154578855026089473678852767/4013825782625168486045307742715904000000) * h 11

/-- Within a quarter turn of the half turn, the polynomial is not far above the Taylor polynomial. -/
theorem high_below (s : ℝ) (h0 : 0 ≤ s) (h1 : s ≤ 1) : poly (1 / 2 - s / 4) - taylor (710 / 113 * (s / 4)) ≤ 1298 / 1000000 := by
  have h := basis_nonneg s h0 h1
  unfold poly taylor
  linear_combination
    (338584581/131072000000) * h 0
    + (146411971491/29622272000000) * h 1
    + (196119264857/11848908800000) * h 2
    + (118704224079909469/907792298803200000) * h 3
    + (780866906606691001/1815584597606400000) * h 4
    + (173505894125585926612891/231831997268361216000000) * h 5
    + (370198935746515610897657/463663994536722432000000) * h 6
    + (27727111169850662412035159023/49732414588411033367347200000) * h 7
    + (202145130574357873358702341/777068977943922396364800000) * h 8
    + (227339695665214386165983446263359/2857649408457392182804453785600000) * h 9
    + (209587180864524116299760746300859/14288247042286960914022268928000000) * h 10
    + (5027764794540358534747529426411634017/4013825782625168486045307742715904000000) * h 11

/-- Within a quarter turn of the half turn, the polynomial is not far below the Taylor polynomial. -/
theorem high_above (s : ℝ) (h0 : 0 ≤ s) (h1 : s ≤ 1) : -(1298 / 1000000) ≤ poly (1 / 2 - s / 4) - taylor (710 / 113 * (s / 4)) := by
  have h := basis_nonneg s h0 h1
  unfold poly taylor
  linear_combination
    (1678331/131072000000) * h 0
    + (699481627741/29622272000000) * h 1
    + (1495667933607/11848908800000) * h 2
    + (270139529189453219/907792298803200000) * h 3
    + (774508106470759751/1815584597606400000) * h 4
    + (104542275462217634519141/231831997268361216000000) * h 5
    + (185897403429091511366407/463663994536722432000000) * h 6
    + (14877653759749301653103840273/49732414588411033367347200000) * h 7
    + (130704595438141845900196091/777068977943922396364800000) * h 8
    + (180675486874332069694836465244609/2857649408457392182804453785600000) * h 9
    + (198428001675022339561059165207109/14288247042286960914022268928000000) * h 10
    + (5392126937154578855026089473678852767/4013825782625168486045307742715904000000) * h 11

/-- At distance `d` between zero and half a turn. -/
theorem poly_near_pos (d : ℝ) (h0 : 0 ≤ d) (h1 : d ≤ 1 / 2) : |poly d - sin (2 * π * d)| ≤ 13 / 10000 := by
  rcases le_total d (1 / 4) with h | h
  · have a := low_below (4 * d) (by linarith) (by linarith)
    have b := low_above (4 * d) (by linarith) (by linarith)
    have t := abs_le.mp (sin_turn_near d h0 h)
    rw [show 4 * d / 4 = d from by ring] at a b
    rw [abs_le]
    constructor <;> linarith [t.1, t.2]
  · have a := high_below (4 * (1 / 2 - d)) (by linarith) (by linarith)
    have b := high_above (4 * (1 / 2 - d)) (by linarith) (by linarith)
    have t := abs_le.mp (sin_turn_near (1 / 2 - d) (by linarith) (by linarith))
    rw [show 4 * (1 / 2 - d) / 4 = 1 / 2 - d from by ring, show 1 / 2 - (1 / 2 - d) = d from by ring] at a b
    rw [show 2 * π * (1 / 2 - d) = π - 2 * π * d from by ring, sin_pi_sub] at t
    rw [abs_le]
    constructor <;> linarith [t.1, t.2]

/-- At distance `d` of at most half a turn on either side: both functions are odd. -/
theorem poly_near (d : ℝ) (h : |d| ≤ 1 / 2) : |poly d - sin (2 * π * d)| ≤ 13 / 10000 := by
  rcases le_total 0 d with h0 | h0
  · exact poly_near_pos d h0 (abs_le.mp h).2
  · have a := poly_near_pos (-d) (by linarith) (by linarith [(abs_le.mp h).1])
    rw [show poly (-d) - sin (2 * π * -d) = -(poly d - sin (2 * π * d)) from by
      rw [show 2 * π * -d = -(2 * π * d) from by ring, sin_neg]; unfold poly; ring, abs_neg] at a
    exact a

end Cert.Proof.Sine

end
-- ==== Proof.Turns.lean ====
/- Over the reals: the polynomial of the distance to the nearest whole turn, against the sine and the cosine of the angle. -/
module

public import proofs.«01_k».proof.Proof.Sine

@[expose] public section

noncomputable section

namespace Cert.Proof.Turns

open Real Cert.Proof.Sine
open Idealize.ShloMosaic (Ideal)

/-- Rounding to the nearest integer moves a number by at most a half. -/
theorem distance_le (u : ℝ) : |u - (Idealize.ShloMosaic.Ideal.roundHalfEven u : ℝ)| ≤ 1 / 2 := by
  have a := Int.floor_le u
  have b := Int.lt_floor_add_one u
  unfold Idealize.ShloMosaic.Ideal.roundHalfEven
  simp only
  rw [abs_le]
  split_ifs <;> push_cast <;> constructor <;> linarith

/-- The polynomial of the distance from `u` to the nearest integer is near the sine of `u` turns. -/
theorem poly_near_turns (u : ℝ) :
    |poly (u - (Idealize.ShloMosaic.Ideal.roundHalfEven u : ℝ)) - sin (2 * π * u)| ≤ 13 / 10000 := by
  have h := poly_near _ (distance_le u)
  have e : sin (2 * π * (u - (Idealize.ShloMosaic.Ideal.roundHalfEven u : ℝ))) = sin (2 * π * u) := by
    rw [show 2 * π * (u - (Idealize.ShloMosaic.Ideal.roundHalfEven u : ℝ))
      = 2 * π * u - (Idealize.ShloMosaic.Ideal.roundHalfEven u : ℤ) * (2 * π) from by ring, sin_sub_int_mul_two_pi]
  rwa [e] at h

/-- One over two π as a float, in turns, against one radian. -/
theorem turn_scale (r : ℝ) : |2 * π * (r * (10680707 / 67108864)) - r| ≤ 1 / 16777216 * |r| := by
  have e : 2 * π * (r * (10680707 / 67108864)) - r = (2 * π * (10680707 / 67108864) - 1) * r := by ring
  have c : |2 * π * (10680707 / 67108864) - 1| ≤ 1 / 16777216 := by
    rw [abs_le]
    constructor <;> linarith [pi_low, pi_high]
  rw [e, abs_mul]
  exact mul_le_mul_of_nonneg_right c (abs_nonneg r)

/-- The sine half. -/
theorem sine_half (r u : ℝ) (hu : u = r * (10680707 / 67108864)) :
    |poly (u - (Idealize.ShloMosaic.Ideal.roundHalfEven u : ℝ)) - sin r| ≤ 13 / 10000 + 1 / 16777216 * |r| := by
  have a := poly_near_turns u
  have b := (sin_lipschitz (2 * π * u) r).trans (hu ▸ turn_scale r)
  have c := abs_sub_le (poly (u - (Idealize.ShloMosaic.Ideal.roundHalfEven u : ℝ))) (sin (2 * π * u)) (sin r)
  linarith

/-- The cosine half: a quarter turn on. -/
theorem cosine_half (r u : ℝ) (hu : u = r * (10680707 / 67108864) + 1 / 4) :
    |poly (u - (Idealize.ShloMosaic.Ideal.roundHalfEven u : ℝ)) - cos r| ≤ 13 / 10000 + 1 / 16777216 * |r| := by
  have a := poly_near_turns u
  have e : 2 * π * u - (r + π / 2) = 2 * π * (r * (10680707 / 67108864)) - r := by rw [hu]; ring
  have b := sin_lipschitz (2 * π * u) (r + π / 2)
  rw [e, sin_add_pi_div_two] at b
  have b' := b.trans (turn_scale r)
  have c := abs_sub_le (poly (u - (Idealize.ShloMosaic.Ideal.roundHalfEven u : ℝ))) (sin (2 * π * u)) (cos r)
  linarith

end Cert.Proof.Turns

end
-- ==== Proof.Near.lean ====
/- One result entry is near the exact sine or cosine. -/
module

public import proofs.«01_k».proof.Proof.Consts
public import proofs.«01_k».proof.Proof.Turns

@[expose] public section

noncomputable section

namespace Cert.Proof.Near

open Idealize.ShloMosaic Cert.Proof.Wave Cert.Proof.Sine

/-- The approximate sine of a number of turns is a number. -/
theorem wave_real (u : ℝ) : wave (u : EReal) = ((poly (u - (Ideal.roundHalfEven u : ℝ)) : ℝ) : EReal) := by
  have e : nearest (u : EReal) = ((Ideal.roundHalfEven u : ℝ) : EReal) := rfl
  unfold wave septic poly
  rw [e, Consts.first, Consts.third, Consts.fifth, Consts.seventh]
  norm_cast

/-- At a number of radians, scaled to turns. -/
theorem wave_scaled (t : ℝ) : wave ((t : EReal) * word 0x3E22F983#32)
    = ((poly (t * (10680707 / 67108864) - (Ideal.roundHalfEven (t * (10680707 / 67108864)) : ℝ)) : ℝ) : EReal) := by
  have e : (t : EReal) * word 0x3E22F983#32 = ((t * (10680707 / 67108864) : ℝ) : EReal) := by
    rw [Consts.scale]; norm_cast
  rw [e, wave_real]

/-- A quarter turn on. -/
theorem wave_shifted (t : ℝ) : wave ((t : EReal) * word 0x3E22F983#32 + word 0x3E800000#32)
    = ((poly (t * (10680707 / 67108864) + 1 / 4 - (Ideal.roundHalfEven (t * (10680707 / 67108864) + 1 / 4) : ℝ)) : ℝ) : EReal) := by
  have e : (t : EReal) * word 0x3E22F983#32 + word 0x3E800000#32 = ((t * (10680707 / 67108864) + 1 / 4 : ℝ) : EReal) := by
    rw [Consts.scale, Consts.quarter]; norm_cast
  rw [e, wave_real]

/-- The absolute value, as the programs take it, of a number. -/
theorem abs_real (a : ℝ) : max (a : EReal) (-(a : EReal)) = ((|a| : ℝ) : EReal) := by
  rw [← EReal.coe_neg]
  rcases le_total 0 a with h | h
  · rw [abs_of_nonneg h, max_eq_left (EReal.coe_le_coe_iff.mpr (by linarith))]
  · rw [abs_of_nonpos h, max_eq_right (EReal.coe_le_coe_iff.mpr (by linarith))]

/-- The tolerance at a number. -/
def tolerance (t : EReal) : EReal := word 0x3AAA64C3#32 + word 0x33800000#32 * max t (-t)

theorem tolerance_real (t : ℝ) : tolerance (t : EReal) = ((11166915 / 8589934592 + 1 / 16777216 * |t| : ℝ) : EReal) := by
  unfold tolerance
  rw [abs_real, Consts.slack, Consts.ulp]
  norm_cast

/-- Two numbers within the tolerance of each other. -/
theorem within (a b t : ℝ) (h : |a - b| ≤ 13 / 10000 + 1 / 16777216 * |t|) :
    max ((a : EReal) - (b : EReal)) (-((a : EReal) - (b : EReal))) ≤ tolerance (t : EReal) := by
  rw [← EReal.coe_sub, abs_real, tolerance_real, EReal.coe_le_coe_iff]
  linarith

/-- An infinite angle has an infinite tolerance. -/
theorem tolerance_infinite (t : EReal) (h : t = ⊤ ∨ t = ⊥) : tolerance t = ⊤ := by
  have e : max t (-t) = ⊤ := by rcases h with rfl | rfl <;> simp
  unfold tolerance
  rw [e, Consts.slack, Consts.ulp, EReal.coe_mul_top_of_pos (by norm_num)]
  exact EReal.coe_add_top _

/-- A sine-half entry at the angle `t` against the exact one; `b` says whether the position is the masked one. -/
theorem sine_entry (b : Prop) [Decidable b] (t : EReal) :
    let e : EReal := if b then 0 else wave (t * word 0x3E22F983#32)
    let r : EReal := if b then 0 else Ideal.sin t
    max (e - r) (-(e - r)) ≤ tolerance t := by
  intro e r
  induction t with
  | bot => rw [tolerance_infinite _ (Or.inr rfl)]; exact le_top
  | top => rw [tolerance_infinite _ (Or.inl rfl)]; exact le_top
  | coe t =>
    by_cases h : b
    · simp only [e, r, if_pos h]
      exact within 0 0 _ (by simp; positivity)
    · simp only [e, r, if_neg h]
      rw [wave_scaled]
      exact within _ _ _ (Turns.sine_half _ _ rfl)

/-- A cosine-half entry against the exact one. -/
theorem cosine_entry (b : Prop) [Decidable b] (t : EReal) :
    let e : EReal := if b then 0 else wave (t * word 0x3E22F983#32 + word 0x3E800000#32)
    let r : EReal := if b then 0 else Ideal.cos t
    max (e - r) (-(e - r)) ≤ tolerance t := by
  intro e r
  induction t with
  | bot => rw [tolerance_infinite _ (Or.inr rfl)]; exact le_top
  | top => rw [tolerance_infinite _ (Or.inl rfl)]; exact le_top
  | coe t =>
    by_cases h : b
    · simp only [e, r, if_pos h]
      exact within 0 0 _ (by simp; positivity)
    · simp only [e, r, if_neg h]
      rw [wave_shifted]
      exact within _ _ _ (Turns.cosine_half _ _ rfl)

end Cert.Proof.Near

end
-- ==== Proof.Post.lean ====
/- The predicate on the result, read at every entry. -/
module

public import proofs.«01_k».proof.Proof.Gen.Post_near_reference
public import proofs.«01_k».proof.Proof.Near
public import proofs.«01_k».proof.Proof.Host
public import Idealize.ShloMosaic.Lib.Pipeline.ValueKit

@[expose] public section

set_option maxRecDepth 16384

noncomputable section

namespace Cert.Proof.Post

open Idealize.ShloMosaic Idealize.ShloMosaic.TcCoe Cert.Proof.Wave Cert.Post_near_reference Cert.Post_near_reference.Gen

/-- The result formula is within the tolerance of the exact sine and cosine, at every entry. -/
theorem fits (X : FVec Ideal S4096x200 .f32) (f : FVec Ideal S32 .f32) :
    Cert.Post_near_reference.fn (F := Ideal) X f (rope X f) = fun _ => 1#1 := by
  funext i
  pointwise [Cert.Post_near_reference.fn, Cert.Post_near_reference.fn_part1, Cert.Post_near_reference.fn_where]
  have hi : (i 2).val < 64 := (i 2).isLt
  refine congrArg BitVec.ofBool (decide_eq_true ?_)
  by_cases h : (i 2).val < 32
  · rw [dif_pos h, HostSide.rope_sine X f i ⟨(i 2).val, h⟩ h rfl]
    have e : (⟨(i 2).val % 32, Nat.mod_lt _ (by decide)⟩ : Fin 32) = ⟨(i 2).val, h⟩ := Fin.ext (by simp only []; omega)
    rw [e]
    exact Near.sine_entry _ _
  · rw [dif_neg h, HostSide.rope_cosine X f i ⟨(i 2).val - 32, by omega⟩ h rfl]
    have e : (⟨(i 2).val % 32, Nat.mod_lt _ (by decide)⟩ : Fin 32) = ⟨(i 2).val - 32, by omega⟩ := Fin.ext (by simp only []; omega)
    rw [e]
    exact Near.cosine_entry _ _

end Cert.Proof.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Post_near_reference
public import proofs.«01_k».proof.Proof.Gen.KernelIdeal.Value
public import proofs.«01_k».proof.Proof.Gen.ReferenceIdeal.Run
public import proofs.«01_k».proof.Proof.Final
public import proofs.«01_k».proof.Proof.Host
public import proofs.«01_k».proof.Proof.Post
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and ends quiescent. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- Both programs end with the same result array: `rope` of the arguments. -/
theorem same_value : Cert.algebraic_KernelIdeal_ReferenceIdeal (hKernelIdeal := Cert.KernelIdeal.Gen.facts)
    (hReferenceIdeal := Cert.ReferenceIdeal.Gen.facts) := by
  intro m ρ m' ρ' _ hagree
  refine ⟨fun c => Wave.rope (Body.pos m c) (Body.freq m c),
    (θ_run _ _ _).mono (fun r h c => ⟨(h c).1.trans (Final.final m c), (h c).2⟩)
      (Cert.KernelIdeal.Value.run_blocks (F := Ideal) m ρ),
    (θ_run _ _ _).mono (fun r h c => ⟨(h c).1.trans ?_, (h c).2⟩) (Cert.ReferenceIdeal.Value.run (F := Ideal) m' ρ')⟩
  refine (HostSide.result m' c).trans ?_
  rw [(hagree c).1, (hagree c).2]

/-- The kernel ends with a result near the exact sine and cosine. -/
theorem near_exact : Cert.holds_KernelIdeal_near_reference (hKernelIdeal := Cert.KernelIdeal.Gen.facts)
    (hPost_near_reference := Cert.Post_near_reference.Gen.facts) := by
  intro m ρ _
  refine (θ_run _ _ _).mono (fun r h c => ⟨(h c).2.1, (h c).2.2, ?_⟩) (Cert.KernelIdeal.Value.run_blocks (F := Ideal) m ρ)
  rw [(h c).1.trans (Final.final m c)]
  exact Post.fits _ _

theorem claim : Cert.Claim := ⟨Cert.Kernel.Gen.facts, Cert.KernelIdeal.Gen.facts, Cert.ReferenceIdeal.Gen.facts,
  Cert.Post_near_reference.Gen.facts,
  fun m ρ _ => Cert.Kernel.Gen.frame m ρ, fun m ρ _ => Cert.KernelIdeal.Gen.frame m ρ,
  reference_frame, trivial, same_value, near_exact⟩

end Cert.Proof

end
